-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S1000x128 : Shape := ⟨2, ![1000, 128]⟩
abbrev S1000x16 : Shape := ⟨2, ![1000, 16]⟩
abbrev S25x400x10000 : Shape := ⟨3, ![25, 400, 10000]⟩
abbrev S400x10000 : Shape := ⟨2, ![400, 10000]⟩
abbrev S400x16 : Shape := ⟨2, ![400, 16]⟩
abbrev S1x400x10000 : Shape := ⟨3, ![1, 400, 10000]⟩
abbrev S5x400x10000 : Shape := ⟨3, ![5, 400, 10000]⟩
abbrev S2000x16 : Shape := ⟨2, ![2000, 16]⟩
abbrev S400 : Shape := ⟨1, ![400]⟩
abbrev S400x1 : Shape := ⟨2, ![400, 1]⟩

abbrev nBuf : Space → Nat
  | .hbm => 12
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .bf16⟩
  | .hbm, ⟨9, _⟩ => ⟨S10000x16, .f32⟩
  | .hbm, ⟨10, _⟩ => ⟨S25x400x10000, .i4⟩
  | .hbm, ⟨11, _⟩ => ⟨S10000x16, .f32⟩
  | .local _ .vmem, ⟨0, _⟩ => ⟨S1000x128, .f32⟩
  | .local _ .vmem, ⟨1, _⟩ => ⟨S1000x128, .f32⟩
  | .local _ .vmem, ⟨2, _⟩ => ⟨S128x16, .f32⟩
  | .local _ .vmem, ⟨3, _⟩ => ⟨S1000x16, .bf16⟩
  | .local _ .vmem, ⟨4, _⟩ => ⟨S1000x16, .bf16⟩
  | .local _ .vmem, ⟨5, _⟩ => ⟨S400x10000, .f32⟩
  | .local _ .vmem, ⟨6, _⟩ => ⟨S400x10000, .f32⟩
  | .local _ .vmem, ⟨7, _⟩ => ⟨S10000x16, .bf16⟩
  | .local _ .vmem, ⟨8, _⟩ => ⟨S1x16, .f32⟩
  | .local _ .vmem, ⟨9, _⟩ => ⟨S16x16, .f32⟩
  | .local _ .vmem, ⟨10, _⟩ => ⟨S400x16, .f32⟩
  | .local _ .vmem, ⟨11, _⟩ => ⟨S400x16, .f32⟩
  | .local _ .vmem, ⟨12, _⟩ => ⟨S1x400x10000, .i4⟩
  | .local _ .vmem, ⟨13, _⟩ => ⟨S1x400x10000, .i4⟩
  | .local _ .vmem, ⟨14, _⟩ => ⟨S5x400x10000, .i4⟩
  | .local _ .vmem, ⟨15, _⟩ => ⟨S5x400x10000, .i4⟩
  | .local _ .vmem, ⟨16, _⟩ => ⟨S10000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | .local _ .vmem, ⟨20, _⟩ => ⟨S10000x16, .bf16⟩
  | .local _ .vmem, ⟨21, _⟩ => ⟨S1x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc2_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x400x10000 .i4 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5x400x10000 .i4 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S10000x10000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S10000x16, .f32⟩
  | .hbm, ⟨33, _⟩ => ⟨S10000x16, .f32⟩
  | .hbm, ⟨34, _⟩ => ⟨S1x16, .f32⟩
  | .hbm, ⟨35, _⟩ => ⟨S10000x16, .f32⟩
  | .hbm, ⟨36, _⟩ => ⟨S10000x16, .f32⟩
  | .hbm, ⟨37, _⟩ => ⟨S_, .f32⟩
  | .hbm, ⟨38, _⟩ => ⟨S10000, .f32⟩
  | .hbm, ⟨39, _⟩ => ⟨S_, .f32⟩
  | .hbm, ⟨40, _⟩ => ⟨S10000, .f32⟩
  | .hbm, ⟨41, _⟩ => ⟨S10000, .f32⟩
  | .hbm, ⟨42, _⟩ => ⟨S10000x1, .f32⟩
  | .hbm, ⟨43, _⟩ => ⟨S10000x16, .f32⟩
  | .hbm, ⟨44, _⟩ => ⟨S10000x16, .f32⟩
  | .hbm, ⟨45, _⟩ => ⟨S10000x16, .f32⟩
  | .hbm, ⟨46, _⟩ => ⟨S_, .f32⟩
  | .hbm, ⟨47, _⟩ => ⟨S10000, .f32⟩
  | .hbm, ⟨48, _⟩ => ⟨S10000x1, .f32⟩
  | .hbm, ⟨49, _⟩ => ⟨S10000x1, .f32⟩
  | .hbm, ⟨50, _⟩ => ⟨S10000x16, .f32⟩
  | .hbm, ⟨51, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_cst_1 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Passes.lean ====
/-
  The first two kernels of the program, at any float values: the support product (ten row blocks of `x @ W1`) and the
  first pass over the adjacency matrix (twenty-five row blocks, leaving the hidden layer's product and the four-bit codes).

  Each is proved at a parameter `V`, the contents of the buffers when its pipeline is entered: what the body leaves in
  each output block as a function of the input blocks, the body's triple, the pipeline's proof data, and the body
  obligation the pipeline library asks for.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The support product -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data with these arrays. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data with these arrays. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x128 := Rect.unit (s := S1000x128) ![0, 0] S1000x128.size inb_S1000x128_S1000x128_0_0
abbrev r0_1 : Rect S128x16 := Rect.unit (s := S128x16) ![0, 0] S128x16.size inb_S128x16_S128x16_0_0
abbrev r0_2 : Rect S1000x16 := Rect.unit (s := S1000x16) ![0, 0] S1000x16.size inb_S1000x16_S1000x16_0_0

/-! ## What the body leaves in each output window's buffer -/

/-- Window 2's staging buffer after the body, from the input windows' blocks: the one store that fills it. -/
def out0_2 (x0 : Vec F S1000x128 .f32) (x1 : Vec F S128x16 .f32) : Vec F S1000x16 .bf16 :=
  View.canon [⟨r0_2, k0_pay1 (View.ld x0 r0_0) (View.ld x1 r0_1)⟩]

/-- The store covers the whole block. -/
theorem cover0_2 (p0 : Vec F S1000x16 .bf16) (y : S1000x16.Idx) :
    ∃ pc ∈ ([⟨r0_2, p0⟩] : List (View.Piece (Elt F) S1000x16 .bf16)), y ∈ pc.1.set :=
  View.cover_of_tiled [⟨r0_2, p0⟩] S1000x16.size (by rfl) y

/-! ## The body's triple -/

set_option maxHeartbeats 1000000 in
/-- The body, on staging buffers holding the input blocks, leaves the inputs as they were and each output block at its
    function of the inputs. -/
theorem sound_kernel0 (c : Dev nD) (E : Set ℕ) (i : grid0.Coords) (arg1 : Memref sig .tc .vmem S1000x128 .f32) (harg1 : arg1.IsWhole) (arg2 : Memref sig .tc .vmem S128x16 .f32) (harg2 : arg2.IsWhole) (arg3 : Memref sig .tc .vmem S1000x16 .bf16) (harg3 : arg3.IsWhole)
    (x0 : Vec F S1000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_body i arg1 harg1 arg2 harg2 arg3 harg3) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of kernel 0: the arrays as the pipeline finds them; after the body each input block in place and
    each output block at its function of the inputs; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging buffer holds its block when the body runs. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point meets its contract. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The first pass over the adjacency matrix -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data with these arrays. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for any proof data with these arrays. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for any proof data with these arrays. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for any proof data with these arrays. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x16 := Rect.unit (s := S10000x16) ![0, 0] S10000x16.size inb_S10000x16_S10000x16_0_0
abbrev r1_2 : Rect S1x16 := Rect.unit (s := S1x16) ![0, 0] S1x16.size inb_S1x16_S1x16_0_0
abbrev r1_3 : Rect S16x16 := Rect.unit (s := S16x16) ![0, 0] S16x16.size inb_S16x16_S16x16_0_0
abbrev r1_4 : Rect S400x16 := Rect.unit (s := S400x16) ![0, 0] S400x16.size inb_S400x16_S400x16_0_0
abbrev r1_5 : Rect S1x400x10000 := Rect.unit (s := S1x400x10000) ![0, 0, 0] S1x400x10000.size inb_S1x400x10000_S1x400x10000_0_0_0

/-! ## What the body leaves in each output window's buffer -/

/-- Window 4's staging buffer after the body, from the input windows' blocks: the one store that fills it. -/
def out1_4 (x0 : Vec F S400x10000 .f32) (x1 : Vec F S10000x16 .bf16) (x2 : Vec F S1x16 .f32) (x3 : Vec F S16x16 .f32) : Vec F S400x16 .f32 :=
  View.canon [⟨r1_4, k1_pay1 (View.ld x0 r1_0) (View.ld x1 r1_1) (View.ld x2 r1_2) (View.ld x3 r1_3)⟩]

/-- The store covers the whole block. -/
theorem cover1_4 (p0 : Vec F S400x16 .f32) (y : S400x16.Idx) :
    ∃ pc ∈ ([⟨r1_4, p0⟩] : List (View.Piece (Elt F) S400x16 .f32)), y ∈ pc.1.set :=
  View.cover_of_tiled [⟨r1_4, p0⟩] S400x16.size (by rfl) y

/-- Window 5's staging buffer after the body, from the input windows' blocks: the one store that fills it. -/
def out1_5 (x0 : Vec F S400x10000 .f32) (x1 : Vec F S10000x16 .bf16) (x2 : Vec F S1x16 .f32) (x3 : Vec F S16x16 .f32) : Vec F S1x400x10000 .i4 :=
  View.canon [⟨r1_5, k1_pay2 (View.ld x0 r1_0)⟩]

/-- The store covers the whole block. -/
theorem cover1_5 (p0 : Vec F S1x400x10000 .i4) (y : S1x400x10000.Idx) :
    ∃ pc ∈ ([⟨r1_5, p0⟩] : List (View.Piece (Elt F) S1x400x10000 .i4)), y ∈ pc.1.set :=
  View.cover_of_tiled [⟨r1_5, p0⟩] S1x400x10000.size (by rfl) y

/-! ## The body's triple -/

set_option maxHeartbeats 1000000 in
/-- The body, on staging buffers holding the input blocks, leaves the inputs as they were and each output block at its
    function of the inputs. -/
theorem sound_kernel1 (c : Dev nD) (E : Set ℕ) (i : grid1.Coords) (arg1 : Memref sig .tc .vmem S400x10000 .f32) (harg1 : arg1.IsWhole) (arg2 : Memref sig .tc .vmem S10000x16 .bf16) (harg2 : arg2.IsWhole) (arg3 : Memref sig .tc .vmem S1x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S1x400x10000 .i4) (harg6 : arg6.IsWhole)
    (x0 : Vec F S400x10000 .f32) (x1 : Vec F S10000x16 .bf16) (x2 : Vec F S1x16 .f32) (x3 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__pass1_body i arg1 harg1 arg2 harg2 arg3 harg3 arg4 harg4 arg5 harg5 arg6 harg6) K := by
  simp only [cc1__pass1_body_eq_skeleton]; unfold cc1__pass1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of kernel 1: the arrays as the pipeline finds them; after the body each input block in place and
    each output block at its function of the inputs; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's staging buffer holds its block when the body runs. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point meets its contract. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The pipeline library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Last.lean ====
/-
  The third kernel of the program, at any float values: the product with the four-bit codes, the bias and the log-softmax,
  five tiles of four hundred rows at each of five points. The first point fills two scratch buffers that the others read.
-/
module

public import proofs.«01_k».proof.Proof.Passes
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole of the second layer's features. -/
abbrev r2_w : Rect S10000x16 := Rect.unit (s := S10000x16) ![0, 0] S10000x16.size inb_S10000x16_S10000x16_0_0
/-- The whole of the bias row. -/
abbrev r2_b : Rect S1x16 := Rect.unit (s := S1x16) ![0, 0] S1x16.size inb_S1x16_S1x16_0_0
/-- The first of the block's five tiles of codes. -/
abbrev r2_q0 : Rect S5x400x10000 := Rect.unit (s := S5x400x10000) ![0, 0, 0] S1x400x10000.size inb_S5x400x10000_S1x400x10000_0_0_0
/-- The second of the block's five tiles of codes. -/
abbrev r2_q1 : Rect S5x400x10000 := Rect.unit (s := S5x400x10000) ![1, 0, 0] S1x400x10000.size inb_S5x400x10000_S1x400x10000_1_0_0
/-- The third of the block's five tiles of codes. -/
abbrev r2_q2 : Rect S5x400x10000 := Rect.unit (s := S5x400x10000) ![2, 0, 0] S1x400x10000.size inb_S5x400x10000_S1x400x10000_2_0_0
/-- The fourth of the block's five tiles of codes. -/
abbrev r2_q3 : Rect S5x400x10000 := Rect.unit (s := S5x400x10000) ![3, 0, 0] S1x400x10000.size inb_S5x400x10000_S1x400x10000_3_0_0
/-- The fifth of the block's five tiles of codes. -/
abbrev r2_q4 : Rect S5x400x10000 := Rect.unit (s := S5x400x10000) ![4, 0, 0] S1x400x10000.size inb_S5x400x10000_S1x400x10000_4_0_0
/-- The first four hundred rows of the output block. -/
abbrev r2_o0 : Rect S2000x16 := Rect.unit (s := S2000x16) ![0, 0] S400x16.size inb_S2000x16_S400x16_0_0
/-- The second four hundred rows of the output block. -/
abbrev r2_o1 : Rect S2000x16 := Rect.unit (s := S2000x16) ![400, 0] S400x16.size inb_S2000x16_S400x16_400_0
/-- The third four hundred rows of the output block. -/
abbrev r2_o2 : Rect S2000x16 := Rect.unit (s := S2000x16) ![800, 0] S400x16.size inb_S2000x16_S400x16_800_0
/-- The fourth four hundred rows of the output block. -/
abbrev r2_o3 : Rect S2000x16 := Rect.unit (s := S2000x16) ![1200, 0] S400x16.size inb_S2000x16_S400x16_1200_0
/-- The fifth four hundred rows of the output block. -/
abbrev r2_o4 : Rect S2000x16 := Rect.unit (s := S2000x16) ![1600, 0] S400x16.size inb_S2000x16_S400x16_1600_0

/-- What the first point leaves in the first scratch buffer: the second layer's features, rounded. -/
def keepG (x1 : Vec F S10000x16 .f32) : Vec F S10000x16 .bf16 := View.canon [⟨r2_w, k2_pay2 (View.ld x1 r2_w)⟩]
/-- What the first point leaves in the second scratch buffer: the features' column sums at half a level, plus the bias. -/
def keepB (x1 : Vec F S10000x16 .f32) (x2 : Vec F S1x16 .f32) : Vec F S1x16 .f32 :=
  View.canon [⟨r2_b, k2_pay3 (View.ld x1 r2_w) (View.ld x2 r2_b)⟩]

/-- The output block after the body, from the block of codes and the two scratch buffers: five stores of four hundred rows. -/
def out2_3 (x0 : Vec F S5x400x10000 .i4) (s0 : Vec F S10000x16 .bf16) (s1 : Vec F S1x16 .f32) : Vec F S2000x16 .f32 :=
  View.canon [⟨r2_o4, k2_pay11 (View.ld x0 r2_q4) (View.ld s0 r2_w) (View.ld s1 r2_b)⟩,
    ⟨r2_o3, k2_pay10 (k2_pay9 (View.ld x0 r2_q3)) (View.ld s0 r2_w) (View.ld s1 r2_b)⟩,
    ⟨r2_o2, k2_pay8 (View.ld x0 r2_q2) (View.ld s0 r2_w) (View.ld s1 r2_b)⟩,
    ⟨r2_o1, k2_pay7 (k2_pay5 (View.ld x0 r2_q1) (View.ld s0 r2_w)) (k2_pay6 (View.ld s1 r2_b))⟩,
    ⟨r2_o0, k2_pay4 (View.ld x0 r2_q0) (View.ld s0 r2_w) (View.ld s1 r2_b)⟩]

/-- The store to the first scratch buffer covers it. -/
theorem cover2_g (p0 : Vec F S10000x16 .bf16) (y : S10000x16.Idx) :
    ∃ pc ∈ ([⟨r2_w, p0⟩] : List (View.Piece (Elt F) S10000x16 .bf16)), y ∈ pc.1.set :=
  View.cover_of_tiled [⟨r2_w, p0⟩] S10000x16.size (by rfl) y
/-- The store to the second scratch buffer covers it. -/
theorem cover2_b (p0 : Vec F S1x16 .f32) (y : S1x16.Idx) :
    ∃ pc ∈ ([⟨r2_b, p0⟩] : List (View.Piece (Elt F) S1x16 .f32)), y ∈ pc.1.set :=
  View.cover_of_tiled [⟨r2_b, p0⟩] S1x16.size (by rfl) y
/-- The five stores cover the output block. -/
theorem cover2_o (p0 p1 p2 p3 p4 : Vec F S400x16 .f32) (y : S2000x16.Idx) :
    ∃ pc ∈ ([⟨r2_o4, p4⟩, ⟨r2_o3, p3⟩, ⟨r2_o2, p2⟩, ⟨r2_o1, p1⟩, ⟨r2_o0, p0⟩] : List (View.Piece (Elt F) S2000x16 .f32)), y ∈ pc.1.set :=
  View.cover_of_tiled [⟨r2_o4, p4⟩, ⟨r2_o3, p3⟩, ⟨r2_o2, p2⟩, ⟨r2_o1, p1⟩, ⟨r2_o0, p0⟩] S400x16.size (by rfl) y

/-- The condition of the first-point branch, from the grid coordinates. -/
abbrev cond2 (i : grid2.Coords) : Prop := (Scalar.cmpi .ne (Scalar.extui (Scalar.cmpi .eq (BitVec.ofNat 32 (i 0).val) 0#32)) 0#32) = 1#1

set_option maxHeartbeats 1000000 in
/-- The body at a point other than the first: it leaves the inputs and both scratch buffers as they were, and the output
    block at `out2_3` of the codes and the scratch buffers. -/
theorem kernel2_rest (c : Dev nD) (E : Set ℕ) (i : grid2.Coords) (arg1 : Memref sig .tc .vmem S5x400x10000 .i4) (harg1 : arg1.IsWhole) (arg2 : Memref sig .tc .vmem S10000x16 .f32) (harg2 : arg2.IsWhole) (arg3 : Memref sig .tc .vmem S1x16 .f32) (harg3 : arg3.IsWhole) (arg4 : Memref sig .tc .vmem S2000x16 .f32) (harg4 : arg4.IsWhole) (arg5 : Memref sig .tc .vmem S10000x16 .bf16) (harg5 : arg5.IsWhole) (arg6 : Memref sig .tc .vmem S1x16 .f32) (harg6 : arg6.IsWhole) (hc : ¬cond2 i)
    (x0 : Vec F S5x400x10000 .i4) (x1 : Vec F S10000x16 .f32) (x2 : Vec F S1x16 .f32) (s0 : Vec F S10000x16 .bf16) (s1 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 s0 s1) ∗ owns (c : Thread nD τ) arg5 fullShare s0 ∗ owns (c : Thread nD τ) arg6 fullShare s1) -∗ K ⟨⟩))
      ⊢ wp frame (wpE (defs₀ (F := F)) Variants.none c none) E (cc2__pass2_body i arg1 harg1 arg2 harg2 arg3 harg3 arg4 harg4 arg5 harg5 arg6 harg6) K := by
  simp only [cc2__pass2_body_eq_skeleton]; unfold cc2__pass2_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%d3, %f3, -, H3⟩, ⟨%g0, %hg0, HS0⟩, ⟨%g1, %hg1, HS1⟩, Hk⟩
  subst hf0 hf1 hf2 hg0 hg1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_o _ _ _ _ _)
  isplitl [HS0]
  · iexists g0; isplitr; · ipureintro; rfl
    iexact HS0
  iexists g1; isplitr; · ipureintro; rfl
  iexact HS1

set_option maxHeartbeats 1000000 in
/-- The body at the first point: it fills the two scratch buffers with `keepG` and `keepB`, and leaves the output block at
    `out2_3` of the codes and these. -/
theorem kernel2_first (c : Dev nD) (E : Set ℕ) (i : grid2.Coords) (arg1 : Memref sig .tc .vmem S5x400x10000 .i4) (harg1 : arg1.IsWhole) (arg2 : Memref sig .tc .vmem S10000x16 .f32) (harg2 : arg2.IsWhole) (arg3 : Memref sig .tc .vmem S1x16 .f32) (harg3 : arg3.IsWhole) (arg4 : Memref sig .tc .vmem S2000x16 .f32) (harg4 : arg4.IsWhole) (arg5 : Memref sig .tc .vmem S10000x16 .bf16) (harg5 : arg5.IsWhole) (arg6 : Memref sig .tc .vmem S1x16 .f32) (harg6 : arg6.IsWhole) (hc : cond2 i)
    (x0 : Vec F S5x400x10000 .i4) (x1 : Vec F S10000x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 (keepG x1) (keepB x1 x2)) ∗ owns (c : Thread nD τ) arg5 fullShare (keepG x1) ∗ owns (c : Thread nD τ) arg6 fullShare (keepB x1 x2)) -∗ K ⟨⟩))
      ⊢ wp frame (wpE (defs₀ (F := F)) Variants.none c none) E (cc2__pass2_body i arg1 harg1 arg2 harg2 arg3 harg3 arg4 harg4 arg5 harg5 arg6 harg6) K := by
  simp only [cc2__pass2_body_eq_skeleton]; unfold cc2__pass2_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%d3, %f3, -, H3⟩, ⟨%ds0, %g0, -, HS0⟩, ⟨%ds1, %g1, -, HS1⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover2_o _ _ _ _ _)).trans ?_
    have hg : kernel2_first.sl.v6 c arg2 arg5 f1 = View.ld (keepG (View.read (Elt F) arg2.view f1)) r2_w :=
      View.readCov_eq_canon_ld _ _ _ (cover2_g _)
    have hb : kernel2_first.sl.v10 c arg2 arg3 arg6 f1 f2
        = View.ld (keepB (View.read (Elt F) arg2.view f1) (View.read (Elt F) arg3.view f2)) r2_b :=
      View.readCov_eq_canon_ld _ _ _ (cover2_b _)
    unfold kernel2_first.sl.r_3 kernel2_first.sl.r_2 kernel2_first.sl.r_1 kernel2_first.sl.r
    rw [hg, hb]
    rfl
  isplitl [HS0]
  · iexists _; isplitr
    swap; · iexact HS0
    ipureintro
    exact View.read_writes_eq_canon _ _ _ (cover2_g _)
  iexists _; isplitr
  swap; · iexact HS1
  ipureintro
  exact View.read_writes_eq_canon _ _ _ (cover2_b _)

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for any proof data with these arrays. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, for any proof data with these arrays. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, for any proof data with these arrays. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The scratch buffers between the points -/

/-- The first scratch operand: a whole buffer of the kernel's own. -/
abbrev scM2_0 : Memref sig .tc .vmem S10000x16 .bf16 := Memref.whole cc2_scratch0
/-- The second scratch operand, likewise. -/
abbrev scM2_1 : Memref sig .tc .vmem S1x16 .f32 := Memref.whole cc2_scratch1

/-- The first point of the grid. -/
abbrev first2 : Fin cfg2.N := ⟨0, lt_of_lt_of_eq (by decide) N_2.symm⟩

/-- The first-point branch is taken at the first point alone. -/
theorem hcond2 (t : Fin cfg2.N) : cond2 (grid2.coords t) ↔ t.val = 0 := by
  have ht : t.val < 5 := Nat.lt_of_lt_of_eq t.isLt N_2
  have e0 : (grid2.coords t 0).val = t.val / 1 % 5 := Pipeline.Grid.coords_val t 0 (by decide) rfl
  have h : cond2 (grid2.coords t) ↔ t.val % 5 = 0 := by
    simp only [cond2, e0]
    word_cmp
  rw [h]; omega

/-- What the first scratch buffer holds from the first point on: the hidden layer's product, rounded. -/
def heldG (c : Dev nD) : Vec F S10000x16 .bf16 := keepG (iblk2 V c 1 first2)
/-- What the second scratch buffer holds from the first point on: the bias with the half-step's share added. -/
def heldB (c : Dev nD) : Vec F S1x16 .f32 := keepB (iblk2 V c 1 first2) (iblk2 V c 2 first2)

/-- The scoped buffers that are neither a staging buffer nor scratch of this call, each at some contents. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The scoped buffers that are no staging buffer of this call: its two scratch buffers at some contents, and the others. -/
theorem scoped2_split (c : Dev nD) :
    (Pipeline.scopedRest (Ix := Unit) (Name := ℕ) (U := UR sig nD τ) (Lvl := ℕ) (Val := Elt F) spec2 c : sProp 𝕄)
      = iprop(((∃ d, owns (c : Thread nD τ) scM2_0 fullShare d) ∗ (∃ d, owns (c : Thread nD τ) scM2_1 fullShare d)) ∗ others2 c) := by
  rw [Pipeline.scopedRest_split_of_list spec2 c [cc2_scratch0, cc2_scratch1] (by decide) (by decide)]
  simp only [scM2_0, scM2_1, owns_whole]; try rfl

/-- The loop's invariant: before the first point the scratch buffers hold something; after it they hold `heldG` and
    `heldB`. -/
def Φ2 (c : Dev nD) (n : ℕ) : sProp 𝕄 :=
  if n = 0 then
    iprop((((∃ d, owns (c : Thread nD τ) scM2_0 fullShare d) ∗ (∃ d, owns (c : Thread nD τ) scM2_1 fullShare d)) ∗ others2 c) ∗ (∃ r, prngReg c r))
  else
    iprop(((owns (c : Thread nD τ) scM2_0 fullShare (heldG V c) ∗ owns (c : Thread nD τ) scM2_1 fullShare (heldB V c)) ∗ others2 c) ∗ (∃ r, prngReg c r))

/-- The invariant before the first point. -/
theorem Φ2_zero (c : Dev nD) : Φ2 V c 0
    = iprop((((∃ d, owns (c : Thread nD τ) scM2_0 fullShare d) ∗ (∃ d, owns (c : Thread nD τ) scM2_1 fullShare d)) ∗ others2 c) ∗ (∃ r, prngReg c r)) :=
  if_pos rfl
/-- The invariant after the first point. -/
theorem Φ2_pos (c : Dev nD) (n : ℕ) (h : n ≠ 0) : Φ2 V c n
    = iprop(((owns (c : Thread nD τ) scM2_0 fullShare (heldG V c) ∗ owns (c : Thread nD τ) scM2_1 fullShare (heldB V c)) ∗ others2 c) ∗ (∃ r, prngReg c r)) :=
  if_neg h

/-! ## The pipeline's proof data -/

/-- The proof data of kernel 2: the arrays as the pipeline finds them; after the body each input block in place and
    the output block at its function of the quantised block and the scratch buffers; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (heldG V c) (heldB V c)
  Φ t := Φ2 V c t.val
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (heldG V c) (heldB V c) := by dsimp only [dat2]

/-- Each input's staging buffer holds its block when the body runs. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point meets its contract. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.castSucc = Φ2 V c t.val from rfl, show (dat2 V c).Φ t.succ = Φ2 V c (t.val + 1) from rfl,
    Φ2_pos V c (t.val + 1) (Nat.succ_ne_zero _),
    show (dat2 V c).owesAt () t.succ = (dat2 V c).owesAt () t.castSucc from rfl,
    after2_0, after2_1, after2_2, after2_3]
  by_cases h0 : t.val = 0
  · obtain rfl : t = first2 := Fin.ext h0
    rw [show Φ2 V c (first2 : Fin cfg2.N).val = Φ2 V c 0 from rfl, Φ2_zero]
    iintro ⟨⟨⟨⟨HS0, HS1⟩, Hoth⟩, Hp⟩, Ho, ⟨%d0, H0⟩, ⟨%d1, H1⟩, ⟨%d2, H2⟩, ⟨%d3, H3⟩⟩
    iapply (kernel2_first c Set.univ (grid2.coords first2) _ _ _ _ _ _ _ _ _ _ _ _ ((hcond2 first2).mpr rfl)
      (iblk2 V c 0 first2) (iblk2 V c 1 first2) (iblk2 V c 2 first2) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hoth Hp]
    · isplitl [HS0 HS1 Hoth]
      · isplitl [HS0 HS1]
        · isplitl [HS0]; · iexact HS0
          iexact HS1
        iexact Hoth
      iexact Hp
    isplitl [Ho]; · iexact Ho
    isplitl [H0]; · iexact H0
    isplitl [H1]; · iexact H1
    isplitl [H2]; · iexact H2
    iexact H3
  · rw [Φ2_pos V c t.val h0]
    iintro ⟨⟨⟨⟨HS0, HS1⟩, Hoth⟩, Hp⟩, Ho, ⟨%d0, H0⟩, ⟨%d1, H1⟩, ⟨%d2, H2⟩, ⟨%d3, H3⟩⟩
    iapply (kernel2_rest c Set.univ (grid2.coords t) _ _ _ _ _ _ _ _ _ _ _ _ (fun h => h0 ((hcond2 t).mp h))
      (iblk2 V c 0 t) (iblk2 V c 1 t) (iblk2 V c 2 t) (heldG V c) (heldB V c) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hoth Hp]
    · isplitl [HS0 HS1 Hoth]
      · isplitl [HS0 HS1]
        · isplitl [HS0]; · iexact HS0
          iexact HS1
        iexact Hoth
      iexact Hp
    isplitl [Ho]; · iexact Ho
    isplitl [H0]; · iexact H0
    isplitl [H1]; · iexact H1
    isplitl [H2]; · iexact H2
    iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The pipeline library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point: the generator register and the scoped buffers make the invariant. -/
theorem into2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Φ2 V c 0 from rfl, Φ2_zero, scoped2_split]
  iintro ⟨Hp, Hr⟩
  isplitl [Hr]; · iexact Hr
  iexact Hp

/-- After the last point: the invariant gives both back, the scratch contents forgotten. -/
theorem outOf2 (c : Dev nD) :
    (dat2 V c).Φ (Fin.last _)
      ⊢ iprop((∃ r, prngReg c r) ∗ Pipeline.scopedRest (Ix := Unit) (Name := ℕ) (U := UR sig nD τ) (Lvl := ℕ) (Val := Elt F) spec2 c) := by
  rw [show (dat2 V c).Φ (Fin.last _) = Φ2 V c cfg2.N from rfl, Φ2_pos V c cfg2.N (by rw [show cfg2.N = 5 from N_2]; decide), scoped2_split]
  iintro ⟨⟨⟨HS0, HS1⟩, Hoth⟩, Hp⟩
  isplitl [Hp]; · iexact Hp
  isplitl [HS0 HS1]
  · isplitl [HS0]; · iexists _; iexact HS0
    iexists _; iexact HS1
  iexact Hoth

end Cert.KernelIdeal.Run

end
-- ==== Proof.Run.lean ====
/-
  The run of the whole program, at any float values: the host's two reshapes, then the three kernels one after the other.
  What every buffer holds is followed from the launch to the return, and `run_main` states the outcome.
-/
module

public import proofs.«01_k».proof.Proof.Last
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
/-- Each operation of `hostOps0` writes only references of that list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The argument arrays at launch are the memory's. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The argument arrays at this boundary hold what they held at launch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After region 0 each of its arrays holds what its pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- After region 0 a buffer that is none of its arrays holds what it held before. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The argument arrays at this boundary hold what they held at launch. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- A buffer that is none of region 0's arrays is the same at its exit as at its entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After region 1 each of its arrays holds what its pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- After region 1 a buffer that is none of its arrays holds what it held before. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The argument arrays at this boundary hold what they held at launch. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- A buffer that is none of region 1's arrays is the same at its exit as at its entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
/-- After region 2 each of its arrays holds what its pipeline leaves there. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- After region 2 a buffer that is none of its arrays holds what it held before. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The argument arrays at this boundary hold what they held at launch. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
/-- A buffer that is none of region 2's arrays is the same at its exit as at its entry. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
/-- No loop of the program needs a variant. -/
abbrev 𝒱₀ : Variants := Variants.none
/-- No core owes another anything: no level is assigned. -/
abbrev L : GSem nD τ sig → Finset Unit := fun _ => ∅
/-- Every level is zero: there is none to compare. -/
abbrev lv : GSem nD τ sig → Unit → ℕ := fun _ _ => 0
/-- What rides beside the buffers through every segment: the core's generator register at some state (each
    region takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W3`, left at `W4`
    (what the launch reads at the end). Its arrays split out of the unscoped buffers
    (`arrays_of_unscopedBufs`) and put back at the exit contents (`unscopedBufs_of_arrays`); the generator register into the
    region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := into2 (V3 m ρ) c
    rw [show (pdats m ρ 2 c).Φ 0 = (dat2 (V3 m ρ) c).Φ 0 from rfl]
    iintro ⟨Hp, -, Hr⟩
    iapply h
    isplitl [Hp]; · iexact Hp
    iexact Hr
  hout c := by
    have h := outOf2 (V3 m ρ) c
    rw [Pipeline.ownSems0_none, show (pdats m ρ 2 c).Φ (Fin.last _) = (dat2 (V3 m ρ) c).Φ (Fin.last _) from rfl]
    iintro H
    ihave H' := h $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of its four segments, one after the other. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run, at any float values: from any memory with zero counters every weakly fair execution of @main on the
    TensorCores terminates, nothing faulting, and every final state has the argument arrays as launched, the result at
    what the last pipeline leaves in its output array, and every semaphore counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = (dat2 (V3 m ρ) c).arrAt 3 cfg2.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_args m ρ c main_arg0 (by decide)),
       (h c _ (mem_uc main_arg1 (by decide))).trans (W4_args m ρ c main_arg1 (by decide)),
       (h c _ (mem_uc main_arg2 (by decide))).trans (W4_args m ρ c main_arg2 (by decide)),
       (h c _ (mem_uc main_arg3 (by decide))).trans (W4_args m ρ c main_arg3 (by decide)),
       (h c _ (mem_uc main_arg4 (by decide))).trans (W4_args m ρ c main_arg4 (by decide)),
       (h c _ (mem_uc main_arg5 (by decide))).trans (W4_args m ρ c main_arg5 (by decide)),
       (h c _ (mem_uc main_v4 (by decide))).trans (W4_arr m ρ c 3)⟩), funext fun g => hz g (.inr (no_unscoped g.2))⟩)

end Cert.KernelIdeal.Run

end
-- ==== Proof.Algebra.lean ====
/-
  The extended-real facts the two programs are compared by: the constants they print, the four-bit code of a floor
  against the floor clipped to [0, 15], and a sum of codes read back at their midpoints, `Σ ((q + 1/2) / 16) · g`,
  against `(Σ q · g) / 16 + (Σ g) / 32`. All of it holds at every extended real: the codes are nonnegative reals, and
  a nonnegative real distributes over any sum.
-/
module

public import Idealize.ShloMosaic.PureOps.Ideal
public import Idealize.ShloMosaic.PureOps.Ideal.Laws

@[expose] public section

noncomputable section

namespace Cert.Algebra

open Idealize.ShloMosaic

/-- The log-softmax of a row of sixteen extended reals at one entry: the entry less the row's maximum, less the
    logarithm of the sum of the exponentials of all the entries so shifted. -/
def logSoftmaxRow (L : Fin 16 → EReal) (c : Fin 16) : EReal :=
  (L c - Finset.univ.fold max ⊥ L) - Ideal.log (∑ j : Fin 16, Ideal.exp (L j - Finset.univ.fold max ⊥ L))

/-! ## The printed constants -/

/-- The printed `0x41800000` is sixteen. -/
theorem ofBits_16 : Ideal.ofBits .f32 0x41800000#32 = ((16 : ℝ) : EReal) := by
  simp [Ideal.ofBits, Ideal.ieee, -EReal.coe_mul]; norm_num

/-- The printed `0x41700000` is fifteen. -/
theorem ofBits_15 : Ideal.ofBits .f32 0x41700000#32 = ((15 : ℝ) : EReal) := by
  simp [Ideal.ofBits, Ideal.ieee, -EReal.coe_mul]; norm_num

/-- The printed `0x3F000000` is a half. -/
theorem ofBits_half : Ideal.ofBits .f32 0x3F000000#32 = ((1 / 2 : ℝ) : EReal) := by
  simp [Ideal.ofBits, Ideal.ieee, -EReal.coe_mul]; norm_num

/-- The printed `0x3D800000` is a sixteenth. -/
theorem ofBits_sixteenth : Ideal.ofBits .f32 0x3D800000#32 = ((1 / 16 : ℝ) : EReal) := by
  simp [Ideal.ofBits, Ideal.ieee, -EReal.coe_mul]; norm_num

/-- The printed `0x3D000000` is a thirty-second. -/
theorem ofBits_thirtysecond : Ideal.ofBits .f32 0x3D000000#32 = ((1 / 32 : ℝ) : EReal) := by
  simp [Ideal.ofBits, Ideal.ieee, -EReal.coe_mul]; norm_num

/-- The printed `0xFF800000` is minus infinity. -/
theorem ofBits_negInf : Ideal.ofBits .f32 0xFF800000#32 = (⊥ : EReal) := by
  simp [Ideal.ofBits, Ideal.ieee]

/-! ## The code of an entry -/

/-- The four-bit code of a floor, read as a number, is the floor clipped to `[0, 15]`: an infinity clips as a real
    beyond the end does. -/
theorem code_eq_clip (z : EReal) :
    (((Ideal.fptoui 4 (Ideal.liftRound Int.floor z)).toNat : ℝ) : EReal)
      = min ((15 : ℝ) : EReal) (max 0 (Ideal.liftRound Int.floor z)) := by
  induction z with
  | bot =>
    have e : (Ideal.fptoui 4 (Ideal.liftRound Int.floor ⊥)).toNat = 0 := by
      simp [Ideal.fptoui]
    rw [e, Ideal.liftRound_bot, max_eq_left bot_le, min_eq_right]
    · simp
    · exact_mod_cast (by norm_num : (0 : ℝ) ≤ 15)
  | top =>
    have e : (Ideal.fptoui 4 (Ideal.liftRound Int.floor ⊤)).toNat = 15 := by
      simp [Ideal.fptoui]
    rw [e, Ideal.liftRound_top, max_eq_right le_top, min_eq_left le_top]
    norm_num
  | coe r =>
    rw [Ideal.liftRound_coe]
    have e : Ideal.fptoui 4 (((⌊r⌋ : ℝ) : EReal)) = BitVec.ofInt 4 (max 0 (min 15 ⌊r⌋)) := by
      unfold Ideal.fptoui
      rw [Ideal.toIntClamped_coe, Int.floor_intCast, Int.ceil_intCast, ite_self]
      norm_num
    obtain ⟨n, hn, hb⟩ : ∃ n : ℕ, max 0 (min 15 ⌊r⌋) = (n : ℤ) ∧ n < 16 :=
      ⟨(max 0 (min 15 ⌊r⌋)).toNat, by omega, by omega⟩
    rw [e, hn, BitVec.ofInt_natCast, BitVec.toNat_ofNat, Nat.mod_eq_of_lt hb]
    have hr : ((n : ℕ) : ℝ) = min 15 (max 0 (⌊r⌋ : ℝ)) := by
      have : (n : ℤ) = min 15 (max 0 ⌊r⌋) := by omega
      exact_mod_cast this
    rw [hr, EReal.coe_strictMono.monotone.map_min, EReal.coe_strictMono.monotone.map_max, EReal.coe_zero]

/-- A clipped value is a nonnegative real. -/
theorem clip_real (z : EReal) : ∃ r : ℝ, 0 ≤ r ∧ min ((15 : ℝ) : EReal) (max 0 z) = (r : EReal) := by
  have h0 : (0 : EReal) ≤ min ((15 : ℝ) : EReal) (max 0 z) :=
    le_min (by exact_mod_cast (by norm_num : (0 : ℝ) ≤ 15)) (le_max_left _ _)
  have h1 : min ((15 : ℝ) : EReal) (max 0 z) ≤ ((15 : ℝ) : EReal) := min_le_left _ _
  generalize min ((15 : ℝ) : EReal) (max 0 z) = y at h0 h1 ⊢
  induction y with
  | bot => exact absurd h0 (by simp)
  | top => exact absurd h1 (by simp)
  | coe r => exact ⟨r, by exact_mod_cast h0, rfl⟩

/-! ## The midpoint sum -/

/-- A nonnegative real factor on the right comes out of a finite sum. -/
theorem sum_mul_coe {ι : Type} (s : Finset ι) (f : ι → EReal) {c : ℝ} (hc : 0 ≤ c) :
    ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- One midpoint term: `((q + 1/2) / 16) · g` is a sixteenth of `q · g` plus a thirty-second of `g`. -/
theorem midpoint_term {r : ℝ} (hr : 0 ≤ r) (g : EReal) :
    Ideal.div ((r : EReal) + ((1 / 2 : ℝ) : EReal)) ((16 : ℝ) : EReal) * g
      = (r : EReal) * g * ((1 / 16 : ℝ) : EReal) + g * ((1 / 32 : ℝ) : EReal) := by
  have e : Ideal.div ((r : EReal) + ((1 / 2 : ℝ) : EReal)) ((16 : ℝ) : EReal)
      = ((r * (1 / 16) : ℝ) : EReal) + ((1 / 32 : ℝ) : EReal) := by
    rw [Ideal.div_coe (by norm_num), ← EReal.coe_add, ← EReal.coe_add, ← EReal.coe_mul]
    congr 1; ring
  rw [e, EReal.right_distrib_of_nonneg (by exact_mod_cast (by positivity)) (by exact_mod_cast (by norm_num)),
    EReal.coe_mul, mul_assoc, mul_assoc, mul_comm g, mul_comm g]

/-- The sum of the midpoints against `g`: a sixteenth of the codes' sum and a thirty-second of `g`'s own. -/
theorem midpoint_sum {ι : Type} [Fintype ι] (q g : ι → EReal) (hq : ∀ k, ∃ r : ℝ, 0 ≤ r ∧ q k = (r : EReal)) :
    ∑ k, Ideal.div (q k + ((1 / 2 : ℝ) : EReal)) ((16 : ℝ) : EReal) * g k
      = (∑ k, q k * g k) * ((1 / 16 : ℝ) : EReal) + ((1 / 32 : ℝ) : EReal) * ∑ k, g k := by
  have e : ∀ k, Ideal.div (q k + ((1 / 2 : ℝ) : EReal)) ((16 : ℝ) : EReal) * g k
      = q k * g k * ((1 / 16 : ℝ) : EReal) + g k * ((1 / 32 : ℝ) : EReal) := fun k => by
    obtain ⟨r, hr, e⟩ := hq k
    rw [e]; exact midpoint_term hr (g k)
  rw [Finset.sum_congr rfl fun k _ => e k, Finset.sum_add_distrib, sum_mul_coe _ _ (by norm_num),
    sum_mul_coe _ _ (by norm_num), mul_comm (((1 / 32 : ℝ) : EReal))]

end Cert.Algebra
-- ==== Proof.Payload.lean ====
/-
  What each kernel computes from the blocks it loads, read at one element over the extended reals.

  The support product is a row times a column; the first pass is the hidden layer followed by a second product, and
  beside it the four-bit code of every adjacency entry; the last pass sums the codes against the support, scales, adds
  the bias and takes the row's log-softmax (`logSoftmaxRow`), in five copies of the same arithmetic.
-/
module

public import proofs.«01_k».proof.Proof.Gen.KernelIdeal.Skeleton
public import proofs.«01_k».proof.Proof.Algebra
public import Idealize.ShloMosaic.Lib.Pointwise

@[expose] public section

set_option maxRecDepth 16384

noncomputable section

namespace Cert.KernelIdeal.Payload

open Cert.KernelIdeal Cert.KernelIdeal.Gen Cert.Algebra
open Idealize.ShloMosaic Idealize.SL.Sem

/-- The support product at a row and a column: the row of the left block times the column of the right one. -/
theorem pay0_1 (x : Vec Ideal S1000x128 .f32) (w : Vec Ideal S128x16 .f32) (r : Fin 1000) (c : Fin 16) :
    k0_pay1 x w (ix2 r c) = ∑ k : Fin 128, x (ix2 r k) * w (ix2 k c) := by
  pointwise [k0_pay1]

/-- The first pass's support at a row and a column: the hidden layer's row times the second weights' column. -/
theorem pay1_1 (a : Vec Ideal S400x10000 .f32) (s : Vec Ideal S10000x16 .bf16) (b : Vec Ideal S1x16 .f32)
    (w : Vec Ideal S16x16 .f32) (r : Fin 400) (c : Fin 16) :
    k1_pay1 a s b w (ix2 r c)
      = ∑ l : Fin 16, max ((∑ k : Fin 10000, a (ix2 r k) * s (ix2 k l)) + b (ix2 0 l)) 0 * w (ix2 l c) := by
  pointwise [k1_pay1]

/-- The first pass's code of an adjacency entry: the floor of sixteen times the entry, as four unsigned bits. -/
theorem pay1_2 (a : Vec Ideal S400x10000 .f32) (p : Fin 1) (r : Fin 400) (k : Fin 10000) :
    k1_pay2 a (ix3 p r k)
      = Ideal.fptoui 4 (Ideal.liftRound Int.floor (a (ix2 r k) * Ideal.ofBits .f32 0x41800000#32)) := by
  pointwise [k1_pay2]
  rfl

/-- The kept support is the support. -/
theorem pay2_2 (g : Vec Ideal S10000x16 .f32) (k : Fin 10000) (c : Fin 16) :
    k2_pay2 g (ix2 k c) = g (ix2 k c) := by
  pointwise [k2_pay2, k2_pay1]

/-- The kept bias: a thirty-second of the support's column sum, plus the bias. -/
theorem pay2_3 (g : Vec Ideal S10000x16 .f32) (b : Vec Ideal S1x16 .f32) (p : Fin 1) (c : Fin 16) :
    k2_pay3 g b (ix2 p c)
      = Ideal.ofBits .f32 0x3D000000#32 * (∑ k : Fin 10000, g (ix2 k c)) + b (ix2 p c) := by
  pointwise [k2_pay3, k2_pay1]

/-- One row of logits of the last pass, from the row's codes, the kept support and the kept bias. -/
def logitsRow (q : Vec Ideal S1x400x10000 .i4) (g : Vec Ideal S10000x16 .bf16) (b : Vec Ideal S1x16 .f32)
    (r : Fin 400) (j : Fin 16) : EReal :=
  (∑ k : Fin 10000, (((q (ix3 0 r k)).toNat : ℝ) : EReal) * g (ix2 k j)) * Ideal.ofBits .f32 0x3D800000#32
    + b (ix2 0 j)

/-- The first quarter-block of the last pass: the log-softmax of the row's logits. -/
theorem pay2_4 (q : Vec Ideal S1x400x10000 .i4) (g : Vec Ideal S10000x16 .bf16) (b : Vec Ideal S1x16 .f32)
    (r : Fin 400) (c : Fin 16) :
    k2_pay4 q g b (ix2 r c) = logSoftmaxRow (logitsRow q g b r) c := by
  pointwise [k2_pay4, logSoftmaxRow, logitsRow]
  rw [ofBits_negInf]
  rfl

/-- The second block of the last pass is the same function. -/
theorem pay2_7 (q : Vec Ideal S1x400x10000 .i4) (g : Vec Ideal S10000x16 .bf16) (b : Vec Ideal S1x16 .f32) :
    k2_pay7 (k2_pay5 q g) (k2_pay6 b) = k2_pay4 q g b := rfl

/-- The third block of the last pass is the same function. -/
theorem pay2_8 (q : Vec Ideal S1x400x10000 .i4) (g : Vec Ideal S10000x16 .bf16) (b : Vec Ideal S1x16 .f32) :
    k2_pay8 q g b = k2_pay4 q g b := rfl

/-- The fourth block of the last pass is the same function. -/
theorem pay2_10 (q : Vec Ideal S1x400x10000 .i4) (g : Vec Ideal S10000x16 .bf16) (b : Vec Ideal S1x16 .f32) :
    k2_pay10 (k2_pay9 q) g b = k2_pay4 q g b := rfl

/-- The fifth block of the last pass is the same function. -/
theorem pay2_11 (q : Vec Ideal S1x400x10000 .i4) (g : Vec Ideal S10000x16 .bf16) (b : Vec Ideal S1x16 .f32) :
    k2_pay11 q g b = k2_pay4 q g b := rfl

end Cert.KernelIdeal.Payload
-- ==== Proof.Values.lean ====
/-
  What each pipeline leaves in its result arrays, over the extended reals, as one function of the arrays it was entered
  with: the blocks a pipeline writes tile its result, and each block is the payload of its own input blocks.
-/
module

public import proofs.«01_k».proof.Proof.Last
public import proofs.«01_k».proof.Proof.Payload
public import Idealize.ShloMosaic.Lib.Pipeline.ValueKit

@[expose] public section

set_option maxRecDepth 16384

noncomputable section

namespace Cert.KernelIdeal.Values

open Cert.KernelIdeal Cert.KernelIdeal.Gen Cert.KernelIdeal.Run Cert.KernelIdeal.Payload Cert.Algebra
open Idealize.ShloMosaic Idealize.ShloMosaic.TcCoe Idealize.ShloMosaic.Tactic Idealize.SL.Sem

variable (V : (c : Dev nD) → (b : Ref sig .tc) → Buf (Elt Ideal) ((c : Thread nD τ).loc b))

/-! ## The support product -/

/-- The block indices of the first call's windows: the row block of `x` and of the result at the grid point, the whole of `W1`. -/
theorem idx0_0 : ∀ t : Fin cfg0.N, win0_0.index t = ![(grid0.coords t 0).val, 0] :=
  (by decide +kernel : ∀ t : Fin grid0.N, _)
theorem idx0_1 : ∀ t : Fin cfg0.N, win0_1.index t = ![0, 0] :=
  (by decide +kernel : ∀ t : Fin grid0.N, _)
theorem idx0_2 : ∀ t : Fin cfg0.N, win0_2.index t = ![(grid0.coords t 0).val, 0] :=
  (by decide +kernel : ∀ t : Fin grid0.N, _)

/-- `x @ W1`, every element. -/
def first (x : Vec Ideal S10000x128 .f32) (w : Vec Ideal S128x16 .f32) : Vec Ideal S10000x16 .bf16 :=
  fun i => ∑ k : Fin 128, x (ix2 (i 0) k) * w (ix2 k (i 1))

/-- The first call leaves `x @ W1`. -/
theorem arr0 (c : Dev nD) : (dat0 V c).arrAt 2 cfg0.N = first (V c main_arg0) (V c main_arg2) := by
  refine (dat0 V c).arrAt_eq_of_covers 2 _ (by decide +kernel) fun t hf y => ?_
  blk_simp
  rw [after0_2]
  unfold out0_2
  frame_out
  obtain ⟨r, l, rfl⟩ : ∃ (r : Fin 1000) (l : Fin 16), y = ix2 r l := ⟨y 0, y 1, eq_ix2 y⟩
  refine (pay0_1 _ _ r l).trans ?_
  unfold first
  refine Finset.sum_congr rfl fun k _ => ?_
  congr 1
  · blk_simp [iblk0]
    refine congrArg (V c main_arg0) ?_
    blk_ext [idx0_0, idx0_2]
  · blk_simp [iblk0]
    refine congrArg (V c main_arg2) ?_
    blk_ext [idx0_1, idx0_2]

/-! ## The first pass over the adjacency -/

/-- The block indices of the second call's windows: the row block of the adjacency and of both results at the grid point;
    the support product, the bias and the second weights whole. -/
theorem idx1_0 : ∀ t : Fin cfg1.N, win1_0.index t = ![(grid1.coords t 0).val, 0] :=
  (by decide +kernel : ∀ t : Fin grid1.N, _)
theorem idx1_1 : ∀ t : Fin cfg1.N, win1_1.index t = ![0, 0] :=
  (by decide +kernel : ∀ t : Fin grid1.N, _)
theorem idx1_2 : ∀ t : Fin cfg1.N, win1_2.index t = ![0, 0] :=
  (by decide +kernel : ∀ t : Fin grid1.N, _)
theorem idx1_3 : ∀ t : Fin cfg1.N, win1_3.index t = ![0, 0] :=
  (by decide +kernel : ∀ t : Fin grid1.N, _)
theorem idx1_4 : ∀ t : Fin cfg1.N, win1_4.index t = ![(grid1.coords t 0).val, 0] :=
  (by decide +kernel : ∀ t : Fin grid1.N, _)
theorem idx1_5 : ∀ t : Fin cfg1.N, win1_5.index t = ![(grid1.coords t 0).val, 0, 0] :=
  (by decide +kernel : ∀ t : Fin grid1.N, _)

/-- The hidden layer times `W2`, every element, from the adjacency, the first product, the bias row and `W2`. -/
def support (adj : Vec Ideal S10000x10000 .f32) (s : Vec Ideal S10000x16 .bf16) (b : Vec Ideal S1x16 .f32)
    (w : Vec Ideal S16x16 .f32) : Vec Ideal S10000x16 .f32 :=
  fun i => ∑ l : Fin 16, max ((∑ k : Fin 10000, adj (ix2 (i 0) k) * s (ix2 k l)) + b (ix2 0 l)) 0 * w (ix2 l (i 1))

/-- The codes of the adjacency, in twenty-five planes of four hundred rows: plane `i 0`, row `i 1` is adjacency row
    `400 · i 0 + i 1`. -/
def codes (adj : Vec Ideal S10000x10000 .f32) : Vec Ideal S25x400x10000 .i4 :=
  fun i => Ideal.fptoui 4 (Ideal.liftRound Int.floor
    (adj (ix2 (⟨(i 0).val * 400 + (i 1).val, by
      have h0 : (i 0).val < 25 := (i 0).isLt
      have h1 : (i 1).val < 400 := (i 1).isLt
      omega⟩ : Fin 10000) (i 2)) * Ideal.ofBits .f32 0x41800000#32))

/-- The second call leaves the support in its first result. -/
theorem arr1_4 (c : Dev nD) :
    (dat1 V c).arrAt 4 cfg1.N = support (V c main_arg1) (V c main_v2) (V c main_v0) (V c main_arg4) := by
  refine (dat1 V c).arrAt_eq_of_covers 4 _ (by decide +kernel) fun t hf y => ?_
  blk_simp
  rw [after1_4]
  unfold out1_4
  frame_out
  obtain ⟨r, l, rfl⟩ : ∃ (r : Fin 400) (l : Fin 16), y = ix2 r l := ⟨y 0, y 1, eq_ix2 y⟩
  refine (pay1_1 _ _ _ _ r l).trans ?_
  unfold support
  refine Finset.sum_congr rfl fun j _ => ?_
  congr 1
  · congr 1
    congr 1
    · refine Finset.sum_congr rfl fun k _ => ?_
      congr 1
      · blk_simp [iblk1]
        refine congrArg (V c main_arg1) ?_
        blk_ext [idx1_0, idx1_4]
      · blk_simp [iblk1]
        refine congrArg (V c main_v2) ?_
        blk_ext [idx1_1, idx1_4]
    · blk_simp [iblk1]
      refine congrArg (V c main_v0) ?_
      blk_ext [idx1_2, idx1_4]
  · blk_simp [iblk1]
    refine congrArg (V c main_arg4) ?_
    blk_ext [idx1_3, idx1_4]

/-- The second call leaves the codes in its second result. -/
theorem arr1_5 (c : Dev nD) : (dat1 V c).arrAt 5 cfg1.N = codes (V c main_arg1) := by
  refine (dat1 V c).arrAt_eq_of_covers 5 _ (by decide +kernel) fun t hf y => ?_
  blk_simp
  rw [after1_5]
  unfold out1_5
  frame_out
  obtain ⟨p, r, k, rfl⟩ : ∃ (p : Fin 1) (r : Fin 400) (k : Fin 10000), y = ix3 p r k := ⟨y 0, y 1, y 2, eq_ix3 y⟩
  refine (pay1_2 _ p r k).trans ?_
  unfold codes
  congr 3
  blk_simp [iblk1]
  refine congrArg (V c main_arg1) ?_
  blk_ext [idx1_0, idx1_5]

/-! ## The last pass -/

/-- The block indices of the last call's windows: five planes of codes and two thousand result rows at the grid point;
    the support and the bias whole. -/
theorem idx2_0 : ∀ t : Fin cfg2.N, win2_0.index t = ![(grid2.coords t 0).val, 0, 0] :=
  (by decide +kernel : ∀ t : Fin grid2.N, _)
theorem idx2_1 : ∀ t : Fin cfg2.N, win2_1.index t = ![0, 0] :=
  (by decide +kernel : ∀ t : Fin grid2.N, _)
theorem idx2_2 : ∀ t : Fin cfg2.N, win2_2.index t = ![0, 0] :=
  (by decide +kernel : ∀ t : Fin grid2.N, _)
theorem idx2_3 : ∀ t : Fin cfg2.N, win2_3.index t = ![(grid2.coords t 0).val, 0] :=
  (by decide +kernel : ∀ t : Fin grid2.N, _)

/-- A block of two thousand result rows from its five planes of codes, the kept support and the kept bias. -/
def rows (q : Vec Ideal S5x400x10000 .i4) (g : Vec Ideal S10000x16 .bf16) (b : Vec Ideal S1x16 .f32) :
    Vec Ideal S2000x16 .f32 := fun y =>
  logSoftmaxRow (fun j =>
    (∑ k : Fin 10000, (((q (ix3 (⟨(y 0).val / 400, by
        have h : (y 0).val < 2000 := (y 0).isLt
        omega⟩ : Fin 5) (⟨(y 0).val % 400, Nat.mod_lt _ (by decide)⟩ : Fin 400) k)).toNat : ℝ) : EReal) * g (ix2 k j))
      * Ideal.ofBits .f32 0x3D800000#32 + b (ix2 0 j)) (y 1)

/-- One stored piece of the block: the payload of plane `p` is the block's rows from `400 · p` on. -/
theorem piece (x : Vec Ideal S5x400x10000 .i4) (g : Vec Ideal S10000x16 .bf16) (b : Vec Ideal S1x16 .f32) (p : Fin 5)
    (q : Vec Ideal S1x400x10000 .i4) (hq : ∀ (r : Fin 400) (k : Fin 10000), q (ix3 0 r k) = x (ix3 p r k))
    (r : Fin 400) (l : Fin 16) (y : S2000x16.Idx) (h0 : (y 0).val = 400 * p.val + r.val) (h1 : (y 1).val = l.val) :
    k2_pay4 q g b (ix2 r l) = rows x g b y := by
  have hr : r.val < 400 := r.isLt
  rw [pay2_4]
  unfold rows logitsRow
  have e0 : (⟨(y 0).val / 400, by have h : (y 0).val < 2000 := (y 0).isLt; omega⟩ : Fin 5) = p := Fin.ext (by
    show (y 0).val / 400 = p.val; omega)
  have e1 : (⟨(y 0).val % 400, Nat.mod_lt _ (by decide)⟩ : Fin 400) = r := Fin.ext (by
    show (y 0).val % 400 = r.val; omega)
  have e2 : y 1 = l := Fin.ext h1
  rw [e0, e1, e2]
  simp only [hq]

/-- What the last body leaves is the block of rows. -/
theorem out2_3_eq (x : Vec Ideal S5x400x10000 .i4) (g : Vec Ideal S10000x16 .bf16) (b : Vec Ideal S1x16 .f32) :
    out2_3 x g b = rows x g b := by
  have hg : View.ld g r2_w = g := View.ld_unit_lit _ g (by decide)
  have hb : View.ld b r2_b = b := View.ld_unit_lit _ b (by decide)
  funext y
  unfold out2_3
  rw [hg, hb, pay2_7, pay2_8, pay2_10, pay2_11]
  refine View.canon_apply_of_pieces (rows x g b) _ ?_ y (cover2_o _ _ _ _ _ y)
  intro pc hpc z
  simp only [List.mem_cons, List.not_mem_nil, or_false] at hpc
  rcases hpc with rfl | rfl | rfl | rfl | rfl
  · obtain ⟨r, l, rfl⟩ : ∃ (r : Fin 400) (l : Fin 16), z = ix2 r l := ⟨z 0, z 1, eq_ix2 z⟩
    refine piece x g b 4 _ (fun r k => ?_) r l _ ?_ ?_
    · pointwise
    · show 1600 + 1 * r.val = _; simp
    · show 0 + 1 * l.val = _; simp
  · obtain ⟨r, l, rfl⟩ : ∃ (r : Fin 400) (l : Fin 16), z = ix2 r l := ⟨z 0, z 1, eq_ix2 z⟩
    refine piece x g b 3 _ (fun r k => ?_) r l _ ?_ ?_
    · pointwise
    · show 1200 + 1 * r.val = _; simp
    · show 0 + 1 * l.val = _; simp
  · obtain ⟨r, l, rfl⟩ : ∃ (r : Fin 400) (l : Fin 16), z = ix2 r l := ⟨z 0, z 1, eq_ix2 z⟩
    refine piece x g b 2 _ (fun r k => ?_) r l _ ?_ ?_
    · pointwise
    · show 800 + 1 * r.val = _; simp
    · show 0 + 1 * l.val = _; simp
  · obtain ⟨r, l, rfl⟩ : ∃ (r : Fin 400) (l : Fin 16), z = ix2 r l := ⟨z 0, z 1, eq_ix2 z⟩
    refine piece x g b 1 _ (fun r k => ?_) r l _ ?_ ?_
    · pointwise
    · show 400 + 1 * r.val = _; simp
    · show 0 + 1 * l.val = _; simp
  · obtain ⟨r, l, rfl⟩ : ∃ (r : Fin 400) (l : Fin 16), z = ix2 r l := ⟨z 0, z 1, eq_ix2 z⟩
    refine piece x g b 0 _ (fun r k => ?_) r l _ ?_ ?_
    · pointwise
    · show 0 + 1 * r.val = _; simp
    · show 0 + 1 * l.val = _; simp

/-- The kept support is the support array. -/
theorem heldG_apply (c : Dev nD) (k : Fin 10000) (j : Fin 16) :
    heldG V c (ix2 k j) = (V c main_v3_0 : Vec Ideal S10000x16 .f32) (ix2 k j) := by
  unfold heldG keepG
  frame_out
  refine (pay2_2 _ k j).trans ?_
  blk_simp [iblk2]
  refine congrArg (V c main_v3_0) ?_
  blk_ext [idx2_1]

/-- The bias with the half-step's share added: a thirty-second of the support's column sum, plus the bias row. -/
def biasRow (g : Vec Ideal S10000x16 .f32) (b : Vec Ideal S1x16 .f32) (j : Fin 16) : EReal :=
  Ideal.ofBits .f32 0x3D000000#32 * (∑ k : Fin 10000, g (ix2 k j)) + b (ix2 0 j)

/-- The kept bias is that, of the support array and the bias row. -/
theorem heldB_apply (c : Dev nD) (j : Fin 16) : heldB V c (ix2 0 j) = biasRow (V c main_v3_0) (V c main_v1) j := by
  unfold biasRow
  unfold heldB keepB
  frame_out
  refine (pay2_3 _ _ 0 j).trans ?_
  congr 1
  · congr 1
    refine Finset.sum_congr rfl fun k _ => ?_
    blk_simp [iblk2]
    refine congrArg (V c main_v3_0) ?_
    blk_ext [idx2_1]
  · blk_simp [iblk2]
    refine congrArg (V c main_v1) ?_
    blk_ext [idx2_2]

/-- The result, every element, from the codes, the support and the bias row: the log-softmax of the row of a sixteenth
    of the codes' sum against the support, plus a thirty-second of the support's column sum, plus the bias. -/
def result (q : Vec Ideal S25x400x10000 .i4) (g : Vec Ideal S10000x16 .f32) (b : Vec Ideal S1x16 .f32) :
    Vec Ideal S10000x16 .f32 := fun i =>
  logSoftmaxRow (fun j =>
    (∑ k : Fin 10000, (((q (ix3 (⟨(i 0).val / 400, by
        have h : (i 0).val < 10000 := (i 0).isLt
        omega⟩ : Fin 25) (⟨(i 0).val % 400, Nat.mod_lt _ (by decide)⟩ : Fin 400) k)).toNat : ℝ) : EReal) * g (ix2 k j))
      * Ideal.ofBits .f32 0x3D800000#32 + biasRow g b j) (i 1)

/-- The last call leaves the result. -/
theorem arr2_3 (c : Dev nD) :
    (dat2 V c).arrAt 3 cfg2.N = result (V c main_v3_1) (V c main_v3_0) (V c main_v1) := by
  refine (dat2 V c).arrAt_eq_of_covers 3 _ (by decide +kernel) fun t hf y => ?_
  blk_simp
  rw [after2_3, out2_3_eq]
  obtain ⟨r, l, rfl⟩ : ∃ (r : Fin 2000) (l : Fin 16), y = ix2 r l := ⟨y 0, y 1, eq_ix2 y⟩
  unfold rows result
  simp only [heldG_apply, heldB_apply]
  have hl : ((win2_3.blk t).view.emb (ix2 r l)) 1 = l := Fin.ext (by blk_simp [idx2_3])
  refine congr (congrArg logSoftmaxRow (funext fun j => ?_)) hl.symm
  congr 2
  refine Finset.sum_congr rfl fun k _ => ?_
  congr 3
  refine congrArg BitVec.toNat ?_
  blk_simp [iblk2]
  refine congrArg (V c main_v3_1) ?_
  blk_ext [idx2_0, idx2_3]

end Cert.KernelIdeal.Values
-- ==== Proof.Reading.lean ====
/-
  The reference read at one element over the extended reals: the hidden layer's product `support`, the quantised
  adjacency at its midpoints, the logits, and the log-softmax of a row of them.
-/
module

public import proofs.«01_k».proof.Proof.Gen.ReferenceIdeal.Read
public import proofs.«01_k».proof.Proof.Algebra
public import Idealize.ShloMosaic.Lib.Pointwise

@[expose] public section

set_option maxRecDepth 16384

noncomputable section

namespace Cert.ReferenceIdeal.Reading

open Cert.ReferenceIdeal Cert.ReferenceIdeal.Read Cert.Algebra
open Idealize.ShloMosaic Idealize.SL.Sem

variable (x : Vec Ideal S10000x128 .f32) (adj : Vec Ideal S10000x10000 .f32) (w1 : Vec Ideal S128x16 .f32)
  (b1 : Vec Ideal S16 .f32) (w2 : Vec Ideal S16x16 .f32) (b2 : Vec Ideal S16 .f32)

/-- `x @ W1` at a row and a column. -/
theorem first_apply (r : Fin 10000) (l : Fin 16) :
    val_main_v0 (F := Ideal) x w1 (ix2 r l) = ∑ k : Fin 128, x (ix2 r k) * w1 (ix2 k l) := by
  pointwise [val_main_v0]

/-- The hidden layer times `W2` at a row and a column. -/
theorem support_apply (r : Fin 10000) (c : Fin 16) :
    val_main_v14 (F := Ideal) x adj w1 b1 w2 (ix2 r c)
      = ∑ l : Fin 16, max ((∑ k : Fin 10000, adj (ix2 r k) * val_main_v0 (F := Ideal) x w1 (ix2 k l)) + b1 (ix1 l)) 0
          * w2 (ix2 l c) := by
  pointwise [val_main_v14, val_main_v5, val_main_v4, val_main_v3, val_main_v2, val_main_v1, val_main_call0_v0,
    val_main_call0_cst]

/-- The quantised adjacency: sixteen times the entry, floored, clipped to `[0, 15]`. -/
theorem clip_apply (r k : Fin 10000) :
    val_main_v9 (F := Ideal) adj (ix2 r k)
      = min ((15 : ℝ) : EReal)
          (max 0 (Ideal.liftRound Int.floor (adj (ix2 r k) * Ideal.ofBits .f32 0x41800000#32))) := by
  pointwise [val_main_v9, val_main_call1_v4, val_main_call1_v3, val_main_call1_v2, val_main_call1_v1,
    val_main_call1_v0, val_main_v8, val_main_v7, val_main_v6, val_main_cst, val_main_cst_0, val_main_cst_1]
  show min (Ideal.ofBits .f32 0x41700000#32) (max (Ideal.ofBits .f32 0x00000000#32) _) = _
  rw [ofBits_15, Ideal.ofBits_zero_f32]

/-- The logits at a row and a column, over the quantised adjacency and the support. -/
theorem logits_apply (r : Fin 10000) (c : Fin 16) :
    val_main_v18 (F := Ideal) x adj w1 b1 w2 b2 (ix2 r c)
      = (∑ k : Fin 10000, Ideal.div (val_main_v9 (F := Ideal) adj (ix2 r k) + ((1 / 2 : ℝ) : EReal)) ((16 : ℝ) : EReal)
            * val_main_v14 (F := Ideal) x adj w1 b1 w2 (ix2 k c))
          + b2 (ix1 c) := by
  pointwise [val_main_v18, val_main_v17, val_main_v16, val_main_v15, val_main_v13, val_main_v12, val_main_v11,
    val_main_v10, val_main_cst_2, val_main_cst_3]
  rw [ofBits_half, ofBits_16]

/-- The result at a row and a column: the log-softmax of the row's logits. -/
theorem result_apply (r : Fin 10000) (c : Fin 16) :
    val_main_v19 (F := Ideal) x adj w1 b1 w2 b2 (ix2 r c)
      = logSoftmaxRow (fun j => val_main_v18 (F := Ideal) x adj w1 b1 w2 b2 (ix2 r j)) c := by
  pointwise [logSoftmaxRow, val_main_v19, val_main_call2_v10, val_main_call2_v9, val_main_call2_v8, val_main_call2_v7,
    val_main_call2_v6, val_main_call2_v5, val_main_call2_v4, val_main_call2_v3, val_main_call2_v2, val_main_call2_v1,
    val_main_call2_v0, val_main_call2_cst, val_main_call2_cst_0, val_main_call2_cst_1]
  simp only [ofBits_negInf, max_eq_right bot_le]

end Cert.ReferenceIdeal.Reading
-- ==== Proof.Result.lean ====
/-
  The kernel's result over the extended reals is the reference's, as functions of the six arguments.

  The contents of the buffers between the calls are read back one call at a time (`Run.W1` … `Run.W3`), which makes the
  result a function of the arguments; its logits are then the reference's, by the code of a floor and the midpoint sum.
-/
module

public import proofs.«01_k».proof.Proof.Run
public import proofs.«01_k».proof.Proof.Values
public import proofs.«01_k».proof.Proof.Reading

@[expose] public section

set_option maxRecDepth 16384

noncomputable section

namespace Cert.KernelIdeal.Result

open Cert.KernelIdeal Cert.KernelIdeal.Gen Cert.KernelIdeal.Run Cert.KernelIdeal.Values Cert.Algebra
open Cert.ReferenceIdeal.Read Cert.ReferenceIdeal.Reading
open Idealize.ShloMosaic Idealize.ShloMosaic.TcCoe Idealize.SL.Sem

/-! ## The same functions -/

section Pure

variable (x : Vec Ideal S10000x128 .f32) (adj : Vec Ideal S10000x10000 .f32) (w1 : Vec Ideal S128x16 .f32)
  (b1 : Vec Ideal S16 .f32) (w2 : Vec Ideal S16x16 .f32) (b2 : Vec Ideal S16 .f32)

/-- The support product is the reference's `x @ W1`. -/
theorem first_eq : first x w1 = val_main_v0 (F := Ideal) x w1 := by
  funext i
  obtain ⟨r, l, rfl⟩ : ∃ (r : Fin 10000) (l : Fin 16), i = ix2 r l := ⟨i 0, i 1, eq_ix2 i⟩
  exact (first_apply x w1 r l).symm

/-- The first pass's support is the reference's hidden layer times `W2`. -/
theorem support_eq (b : Vec Ideal S1x16 .f32) (hb : ∀ l : Fin 16, b (ix2 0 l) = b1 (ix1 l)) :
    support adj (first x w1) b w2 = val_main_v14 (F := Ideal) x adj w1 b1 w2 := by
  funext i
  obtain ⟨r, l, rfl⟩ : ∃ (r : Fin 10000) (l : Fin 16), i = ix2 r l := ⟨i 0, i 1, eq_ix2 i⟩
  refine Eq.trans ?_ (support_apply x adj w1 b1 w2 r l).symm
  rw [first_eq]
  unfold support
  simp only [hb]
  rfl

/-- A code of the adjacency, read as a number, is the reference's quantised entry. -/
theorem codes_eq (r k : Fin 10000) :
    (((codes adj (ix3 (⟨r.val / 400, by have h := r.isLt; omega⟩ : Fin 25)
        (⟨r.val % 400, Nat.mod_lt _ (by decide)⟩ : Fin 400) k)).toNat : ℝ) : EReal)
      = val_main_v9 (F := Ideal) adj (ix2 r k) := by
  rw [clip_apply]
  refine Eq.trans ?_ (code_eq_clip _)
  have e : (⟨r.val / 400 * 400 + r.val % 400, by have h := r.isLt; omega⟩ : Fin 10000) = r :=
    Fin.ext (Nat.div_add_mod' r.val 400)
  conv_rhs => rw [← e]
  rfl

/-- The last pass's result, over the codes and the reference's support, is the reference's result. -/
theorem result_eq (b : Vec Ideal S1x16 .f32) (hb : ∀ l : Fin 16, b (ix2 0 l) = b2 (ix1 l)) :
    result (codes adj) (val_main_v14 (F := Ideal) x adj w1 b1 w2) b
      = val_main_v19 (F := Ideal) x adj w1 b1 w2 b2 := by
  funext i
  obtain ⟨r, l, rfl⟩ : ∃ (r : Fin 10000) (l : Fin 16), i = ix2 r l := ⟨i 0, i 1, eq_ix2 i⟩
  refine Eq.trans ?_ (result_apply x adj w1 b1 w2 b2 r l).symm
  refine congrArg (fun L => logSoftmaxRow L l) (funext fun j => ?_)
  rw [logits_apply, midpoint_sum _ _ fun k => by rw [clip_apply]; exact clip_real _]
  unfold biasRow
  rw [hb, ofBits_sixteenth, ofBits_thirtysecond, add_assoc]
  refine congrArg (fun s => s * ((1 / 16 : ℝ) : EReal) + _) (Finset.sum_congr rfl fun k _ => ?_)
  exact congrArg (· * _) (codes_eq adj r k)

end Pure

/-! ## The buffers between the calls -/

variable (m : (ℓ : Loc nD τ sig) → Buf (Elt Ideal) ℓ) (ρ : Dev nD → PrngReg)

/-- The bias row the second call is entered with is `b1`. -/
theorem row1 (c : Dev nD) (l : Fin 16) :
    (V1 m ρ c main_v0 : Vec Ideal S1x16 .f32) (ix2 0 l) = (m ((c : Thread nD τ).loc main_arg3) : Vec Ideal S16 .f32) (ix1 l) := by
  have e : (V1 m ρ c main_v0 : Vec Ideal S1x16 .f32)
      = shapeCast S1x16 (m ((c : Thread nD τ).loc main_arg3) : Vec Ideal S16 .f32) shapeCasts_S16_S1x16 := by
    show StableHlo.after hostOps0 (W0 m ρ c) (Proc.devRef .tc main_v0) = _
    unfold hostOps0
    after_results
    rfl
  rw [e]
  pointwise

/-- The bias row the last call is entered with is `b2`. -/
theorem row2 (c : Dev nD) (l : Fin 16) :
    (V1 m ρ c main_v1 : Vec Ideal S1x16 .f32) (ix2 0 l) = (m ((c : Thread nD τ).loc main_arg5) : Vec Ideal S16 .f32) (ix1 l) := by
  have e : (V1 m ρ c main_v1 : Vec Ideal S1x16 .f32)
      = shapeCast S1x16 (m ((c : Thread nD τ).loc main_arg5) : Vec Ideal S16 .f32) shapeCasts_S16_S1x16 := by
    show StableHlo.after hostOps0 (W0 m ρ c) (Proc.devRef .tc main_v1) = _
    unfold hostOps0
    after_results
    rfl
  rw [e]
  pointwise

/-- The first call's result is `x @ W1` of the arguments. -/
theorem at_v2 (c : Dev nD) : V2 m ρ c main_v2
    = first (m ((c : Thread nD τ).loc main_arg0)) (m ((c : Thread nD τ).loc main_arg2)) := by
  refine (W2_arr m ρ c 2).trans ((arr0 (V1 m ρ) c).trans ?_)
  rw [show V1 m ρ c main_arg0 = _ from W1_args m ρ c main_arg0 (by decide),
    show V1 m ρ c main_arg2 = _ from W1_args m ρ c main_arg2 (by decide)]

/-- The second call's first result is the reference's support of the arguments. -/
theorem at_v3_0 (c : Dev nD) : V3 m ρ c main_v3_0
    = val_main_v14 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W3_arr m ρ c 4).trans ((arr1_4 (V2 m ρ) c).trans ?_)
  rw [show V2 m ρ c main_arg1 = _ from W2_args m ρ c main_arg1 (by decide),
    show V2 m ρ c main_arg4 = _ from W2_args m ρ c main_arg4 (by decide), at_v2,
    show V2 m ρ c main_v0 = V1 m ρ c main_v0 from W2_of m ρ c main_v0 (by decide)]
  exact support_eq _ _ _ _ _ _ (row1 m ρ c)

/-- The second call's second result is the codes of the adjacency. -/
theorem at_v3_1 (c : Dev nD) : V3 m ρ c main_v3_1 = codes (m ((c : Thread nD τ).loc main_arg1)) := by
  refine (W3_arr m ρ c 5).trans ((arr1_5 (V2 m ρ) c).trans ?_)
  rw [show V2 m ρ c main_arg1 = _ from W2_args m ρ c main_arg1 (by decide)]

/-- The last call's result is the reference's result of the arguments. -/
theorem final (c : Dev nD) : (dat2 (V3 m ρ) c).arrAt 3 cfg2.N
    = val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (arr2_3 (V3 m ρ) c).trans ?_
  rw [at_v3_1, at_v3_0,
    show V3 m ρ c main_v1 = V2 m ρ c main_v1 from W3_of m ρ c main_v1 (by decide),
    show V2 m ρ c main_v1 = V1 m ρ c main_v1 from W2_of m ρ c main_v1 (by decide)]
  exact result_eq _ _ _ _ _ _ _ (row2 m ρ c)

end Cert.KernelIdeal.Result
-- ==== Proof.lean ====
/-
  Two graph-convolution layers and a log-softmax, the adjacency read back in four bits by the second layer: the five
  claims of `Cert.Claim`.

  The kernel is run once, at any float values (Proof/Run.lean `run_main`): its two frames are that run at the machine's
  floats and at the extended reals. Its result over the extended reals is the reference's (Proof/Result.lean `final`).
  The reference declares no semaphore, so its frame is its run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Result
public import Idealize.ShloMosaic.Lib.Quiescent

@[expose] public section

set_option maxRecDepth 65536

noncomputable section

namespace Cert.Proof

open Idealize.ShloMosaic Idealize.SL.Sem

/-- The kernel, at any float values, runs to the end, leaves its arguments, and ends with every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread _ Cert.KernelIdeal.τ).loc Cert.KernelIdeal.main_arg0) = m (c.tc.loc Cert.KernelIdeal.main_arg0)
        ∧ r.2.mem ((c.tc : Thread _ Cert.KernelIdeal.τ).loc Cert.KernelIdeal.main_arg1) = m (c.tc.loc Cert.KernelIdeal.main_arg1)
        ∧ r.2.mem ((c.tc : Thread _ Cert.KernelIdeal.τ).loc Cert.KernelIdeal.main_arg2) = m (c.tc.loc Cert.KernelIdeal.main_arg2)
        ∧ r.2.mem ((c.tc : Thread _ Cert.KernelIdeal.τ).loc Cert.KernelIdeal.main_arg3) = m (c.tc.loc Cert.KernelIdeal.main_arg3)
        ∧ r.2.mem ((c.tc : Thread _ Cert.KernelIdeal.τ).loc Cert.KernelIdeal.main_arg4) = m (c.tc.loc Cert.KernelIdeal.main_arg4)
        ∧ r.2.mem ((c.tc : Thread _ Cert.KernelIdeal.τ).loc Cert.KernelIdeal.main_arg5) = m (c.tc.loc Cert.KernelIdeal.main_arg5))
      ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1,
      (h.1 c).2.2.2.2.2.1⟩, h.2⟩)
    (Cert.KernelIdeal.Run.run_main m ρ)

/-- The kernel's frame over the extended reals. -/
theorem frame_kernelIdeal : Cert.quiescent_KernelIdeal := fun m ρ _ => frame_any m ρ

/-- The two programs' body tables are the same: each label runs the same text. -/
theorem bodies_eq : Cert.Kernel.defs₀ (F := Bits) = Cert.KernelIdeal.defs₀ (F := Bits) :=
  congrArg Defs.onTc (funext fun l => funext fun a => by
    match l, a with
    | 0, (t, s) => rfl
    | 1, (t, s) => rfl
    | 2, (t, s) => rfl
    | ⟨_ + 3, h⟩, _ => exact absurd h (by omega))

/-- So are their pipelines' tables. -/
theorem defs_eq : Cert.Kernel.defs (F := Bits) = Cert.KernelIdeal.defs (F := Bits) := by
  unfold Cert.Kernel.defs Cert.KernelIdeal.defs
  rw [bodies_eq]
  rfl

/-- The kernel's frame at the machine's floats: the program's text is the same, so it is the same run. -/
theorem frame_kernel : Cert.quiescent_Kernel := fun m ρ _ => by
  rw [defs_eq]
  exact frame_any (F := Bits) m ρ

/-- The reference runs to the end and leaves its arguments; it has no counter to leave anywhere but at zero. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, from memories agreeing on the six arguments, the kernel and the reference end with the same
    result, every element, at whatever values the arguments hold. -/
theorem algebraic : Cert.algebraic_KernelIdeal_ReferenceIdeal := fun m ρ m' ρ' _ hm => by
  refine ⟨fun c => (Cert.KernelIdeal.Run.dat2 (Cert.KernelIdeal.Run.V3 m ρ) c).arrAt 3 Cert.KernelIdeal.cfg2.N, ?_, ?_⟩
  · exact (θ_run Cert.KernelIdeal.defs _ _).mono
      (fun _ h c => ⟨(h.1 c).2.2.2.2.2.2, (h.1 c).1, (h.1 c).2.1, (h.1 c).2.2.1, (h.1 c).2.2.2.1, (h.1 c).2.2.2.2.1,
        (h.1 c).2.2.2.2.2.1⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hm c
    refine (Cert.ReferenceIdeal.Read.val_main_v19_eq m' c).trans ?_
    rw [h0, h1, h2, h3, h4, h5]
    exact (Cert.KernelIdeal.Result.final m ρ c).symm

/-- The certificate. The idealized kernel is the kernel's own text, no operation rewritten. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
